-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1000 : Shape := ⟨2, ![4096, 1000]⟩
abbrev S8x4096x1000 : Shape := ⟨3, ![8, 4096, 1000]⟩
abbrev S1000x4096 : Shape := ⟨2, ![1000, 4096]⟩
abbrev S8x1000x4096 : Shape := ⟨3, ![8, 1000, 4096]⟩
abbrev S8x4096 : Shape := ⟨2, ![8, 4096]⟩
abbrev S1000x512 : Shape := ⟨2, ![1000, 512]⟩
abbrev S8x1000x512 : Shape := ⟨3, ![8, 1000, 512]⟩
abbrev S8x512 : Shape := ⟨2, ![8, 512]⟩
abbrev S512 : Shape := ⟨1, ![512]⟩
abbrev S1x512 : Shape := ⟨2, ![1, 512]⟩
abbrev S1x8x512 : Shape := ⟨3, ![1, 8, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1000, .f32⟩
  | .hbm, ⟨1, _⟩ => ⟨S8x4096x1000, .f32⟩
  | .hbm, ⟨2, _⟩ => ⟨S1000x4096, .f32⟩
  | .hbm, ⟨3, _⟩ => ⟨S8x1000x4096, .f32⟩
  | .hbm, ⟨4, _⟩ => ⟨S8x4096, .f32⟩
  | .local _ .vmem, ⟨0, _⟩ => ⟨S1000x512, .f32⟩
  | .local _ .vmem, ⟨1, _⟩ => ⟨S1000x512, .f32⟩
  | .local _ .vmem, ⟨2, _⟩ => ⟨S8x1000x512, .f32⟩
  | .local _ .vmem, ⟨3, _⟩ => ⟨S8x1000x512, .f32⟩
  | .local _ .vmem, ⟨4, _⟩ => ⟨S8x512, .f32⟩
  | .local _ .vmem, ⟨5, _⟩ => ⟨S8x512, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x1000 : Shape := ⟨2, ![4096, 1000]⟩
abbrev S8x4096x1000 : Shape := ⟨3, ![8, 4096, 1000]⟩
abbrev S_ : Shape := ⟨0, ![]⟩
abbrev S4096 : Shape := ⟨1, ![4096]⟩
abbrev S4096x1 : Shape := ⟨2, ![4096, 1]⟩
abbrev S1x4096x1000 : Shape := ⟨3, ![1, 4096, 1000]⟩
abbrev S8x4096 : Shape := ⟨2, ![8, 4096]⟩
abbrev S8x4096x1 : Shape := ⟨3, ![8, 4096, 1]⟩
abbrev S1x1x1000 : Shape := ⟨3, ![1, 1, 1000]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S8x4096x1000, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1000, .f32⟩
  | .hbm, ⟨6, _⟩ => ⟨S4096x1000, .f32⟩
  | .hbm, ⟨7, _⟩ => ⟨S_, .f32⟩
  | .hbm, ⟨8, _⟩ => ⟨S4096x1000, .f32⟩
  | .hbm, ⟨9, _⟩ => ⟨S4096x1000, .f32⟩
  | .hbm, ⟨10, _⟩ => ⟨S4096x1000, .f32⟩
  | .hbm, ⟨11, _⟩ => ⟨S4096x1000, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S8x4096x1000, .f32⟩
  | .hbm, ⟨16, _⟩ => ⟨S8x4096x1000, .f32⟩
  | .hbm, ⟨17, _⟩ => ⟨S8x4096x1000, .f32⟩
  | .hbm, ⟨18, _⟩ => ⟨S8x4096x1000, .f32⟩
  | .hbm, ⟨19, _⟩ => ⟨S1x4096x1000, .f32⟩
  | .hbm, ⟨20, _⟩ => ⟨S8x4096x1000, .f32⟩
  | .hbm, ⟨21, _⟩ => ⟨S8x4096x1000, .f32⟩
  | .hbm, ⟨22, _⟩ => ⟨S8x4096x1000, .i32⟩
  | .hbm, ⟨23, _⟩ => ⟨S_, .f32⟩
  | .hbm, ⟨24, _⟩ => ⟨S_, .i32⟩
  | .hbm, ⟨25, _⟩ => ⟨S8x4096, .f32⟩
  | .hbm, ⟨26, _⟩ => ⟨S8x4096, .i32⟩
  | .hbm, ⟨27, _⟩ => ⟨S8x4096x1, .i32⟩
  | .hbm, ⟨28, _⟩ => ⟨S1x1x1000, .i32⟩
  | .hbm, ⟨29, _⟩ => ⟨S8x4096x1000, .i32⟩
  | .hbm, ⟨30, _⟩ => ⟨S8x4096x1000, .i32⟩
  | .hbm, ⟨31, _⟩ => ⟨S8x4096x1000, .i1⟩
  | .hbm, ⟨32, _⟩ => ⟨S8x4096x1000, .f32⟩
  | .hbm, ⟨33, _⟩ => ⟨S1x4096x1000, .f32⟩
  | .hbm, ⟨34, _⟩ => ⟨S8x4096x1000, .f32⟩
  | .hbm, ⟨35, _⟩ => ⟨S8x4096x1000, .f32⟩
  | .hbm, ⟨36, _⟩ => ⟨S_, .f32⟩
  | .hbm, ⟨37, _⟩ => ⟨S8x4096, .f32⟩
  | .hbm, ⟨38, _⟩ => ⟨S1x4096, .f32⟩
  | .hbm, ⟨39, _⟩ => ⟨S_, .f32⟩
  | .hbm, ⟨40, _⟩ => ⟨S1x4096, .f32⟩
  | .hbm, ⟨41, _⟩ => ⟨S1x4096, .f32⟩
  | .hbm, ⟨42, _⟩ => ⟨S8x4096, .f32⟩
  | .hbm, ⟨43, _⟩ => ⟨S8x4096, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Chain.lean ====
/-
  What the kernel's body stores, written once for all samples: the running comparison along the tiles of eight
  categories as a recursion, the two halves of the range joined, and the choice among the eight sublanes — and that the
  eight rows of the kernel's output block are these.
-/
module

public import proofs.«01_k».proof.Proof.Gen.KernelIdeal.Frame

@[expose] public section

set_option maxRecDepth 65536

noncomputable section

namespace Cert.KernelIdeal.Chain

open Cert.KernelIdeal Cert.KernelIdeal.Gen Idealize.ShloMosaic Idealize.ShloMosaic.TcCoe Idealize.ShloMosaic.Tactic

variable {F : FTy → Type} [FloatOps F]

/-- Tile `t` of sample `n` lies inside the block of draws. -/
theorem inb_tile (n t : ℕ) (hn : n < 8) (ht : t < 125) :
    ∀ a, (![n, 8 * t, 0] : Fin 3 → ℕ) a + S1x8x512.size a ≤ S8x1000x512.size a := by
  intro a
  match a with
  | ⟨0, _⟩ => show n + 1 ≤ 8; omega
  | ⟨1, _⟩ => show 8 * t + 8 ≤ 1000; omega
  | ⟨2, _⟩ => show 0 + 512 ≤ 512; omega

/-- Tile `t` lies inside the block of log-probabilities. -/
theorem slices_tile (t : ℕ) (ht : t < 125) : S1000x512.Slices ![8 * t, 0] S8x512 := by
  refine ⟨rfl, fun a => ?_⟩
  match a with
  | ⟨0, _⟩ => show 8 * t + 8 ≤ 1000; omega
  | ⟨1, _⟩ => show 0 + 512 ≤ 512; omega

/-- The log-probabilities of tile `t`. -/
def lpTile (lp : FVec F S1000x512 .f32) (t : ℕ) (ht : t < 125) : FVec F S8x512 .f32 :=
  extractStridedSlice S8x512 ![8 * t, 0] lp (slices_tile t ht)

/-- The perturbed log-probabilities of tile `t` for sample `n`. -/
def keyTile (lp : FVec F S1000x512 .f32) (x1 : Vec F S8x1000x512 .f32) (n t : ℕ) (hn : n < 8) (ht : t < 125) :
    FVec F S8x512 .f32 :=
  addf (lpTile lp t ht) (subf (broadcast S8x512 (Scalar.ofBits .f32 0x00000000#32))
    (log (subf (broadcast S8x512 (Scalar.ofBits .f32 0x00000000#32))
      (log (shapeCast S8x512 (View.ld x1 (Rect.unit (s := S8x1000x512) ![n, 8 * t, 0] S1x8x512.size (inb_tile n t hn ht)))
        shapeCasts_S1x8x512_S8x512)))))

/-- What the running comparison carries per sublane and lane: the best value, its log-probability and its tile. -/
structure Acc (F : FTy → Type) [FloatOps F] where
  key : FVec F S8x512 .f32
  lp : FVec F S8x512 .f32
  tile : IVec S8x512 32

/-- The later tile's entry where its value is strictly larger, the earlier one's elsewhere. -/
def Acc.take (a b : Acc F) : Acc F :=
  ⟨maximumf b.key a.key, select (cmpf .ogt b.key a.key) b.lp a.lp, select (cmpf .ogt b.key a.key) b.tile a.tile⟩

/-- A single tile's entries. -/
def one (lp : FVec F S1000x512 .f32) (x1 : Vec F S8x1000x512 .f32) (n t : ℕ) (hn : n < 8) (ht : t < 125) : Acc F :=
  ⟨keyTile lp x1 n t hn ht, lpTile lp t ht, broadcast S8x512 (BitVec.ofNat 32 t)⟩

/-- The running comparison along the tiles `t₀, …, t₀ + k`. -/
def chain (lp : FVec F S1000x512 .f32) (x1 : Vec F S8x1000x512 .f32) (n t₀ : ℕ) (hn : n < 8) :
    (k : ℕ) → t₀ + k < 125 → Acc F
  | 0, h => one lp x1 n t₀ hn h
  | k + 1, h => (chain lp x1 n t₀ hn k (by omega)).take (one lp x1 n (t₀ + (k + 1)) hn h)

/-- The choice among the eight sublanes — the largest value, then the least category — and the log-probability found
    there plus the entropy. -/
def finish (ent : FVec F S1x512 .f32) (a : Acc F) : FVec F S1x512 .f32 :=
  let m : FVec F S1x512 .f32 := shapeCast S1x512 (multiReduction .maximumf [0] S512 a.key 0xFF800000#32 reduces_S8x512_S512 (.inl rfl) rfl) shapeCasts_S512_S1x512
  let c : IVec S8x512 32 := addi (muli a.tile (broadcast S8x512 8#32)) (iota .tc S8x512 32 [0] iota_S8x512_d0_w32)
  let best : IVec S1x512 32 := shapeCast S1x512 (multiReductionI .minsi [0] S512
    (select (cmpf .oeq a.key (broadcastTo S8x512 m broadcasts_S1x512_S8x512)) c (broadcast S8x512 1073741824#32)) 2147483647#32 reduces_S8x512_S512 rfl) shapeCasts_S512_S1x512
  let s : FVec F S1x512 .f32 := shapeCast S1x512 (multiReduction .add [0] S512
    (select (cmpi .eq c (broadcastTo S8x512 best broadcasts_S1x512_S8x512)) a.lp (broadcast S8x512 (Scalar.ofBits .f32 0x00000000#32)))
      0x00000000#32 reduces_S8x512_S512 (.inl rfl) rfl) shapeCasts_S512_S1x512
  shapeCast S1x512 (shapeCast S512 (addf s ent) shapeCasts_S1x512_S512) shapeCasts_S512_S1x512

/-- The output row of sample `n`: the tiles `0, …, 61` and `62, …, 124` compared, the two results joined. -/
def rowOut (x0 : Vec F S1000x512 .f32) (x1 : Vec F S8x1000x512 .f32) (n : ℕ) (hn : n < 8) : FVec F S1x512 .f32 :=
  finish (k0_pay4 (View.ld x0 r0_0))
    ((chain (k0_pay3 (View.ld x0 r0_0)) x1 n 0 hn 61 (by omega)).take (chain (k0_pay3 (View.ld x0 r0_0)) x1 n 62 hn 62 (by omega)))

/-- The block the kernel stores is these eight rows. -/
theorem out_rows (x0 : Vec F S1000x512 .f32) (x1 : Vec F S8x1000x512 .f32) :
    out0_2 x0 x1 = View.canon [⟨r0_1008, rowOut x0 x1 7 (by omega)⟩, ⟨r0_882, rowOut x0 x1 6 (by omega)⟩,
      ⟨r0_756, rowOut x0 x1 5 (by omega)⟩, ⟨r0_630, rowOut x0 x1 4 (by omega)⟩, ⟨r0_504, rowOut x0 x1 3 (by omega)⟩,
      ⟨r0_378, rowOut x0 x1 2 (by omega)⟩, ⟨r0_252, rowOut x0 x1 1 (by omega)⟩, ⟨r0_126, rowOut x0 x1 0 (by omega)⟩] := by
  sl_kernel_rfl

end Cert.KernelIdeal.Chain

end
-- ==== Proof.Sampler.lean ====
/-
  What one sample is, as a statement about one row of weights `a` and one row of uniform draws `u`, both over the
  thousand categories and valued in the extended reals — and the order arguments the two programs' ways of finding the
  chosen category rest on: a running comparison along tiles, a choice among eight sublanes, and a fold of pairs.
-/
module

public import Idealize.ShloMosaic.PureOps.Ideal.Laws

@[expose] public section

noncomputable section

namespace Cert.Sampler

open Idealize.ShloMosaic
open scoped BigOperators

/-- The probability of category `c`: its weight over the sum of the weights. -/
def prob (a : Fin 1000 → EReal) (c : Fin 1000) : EReal := Ideal.div (a c) (∑ k, a k)

/-- The log-probability of category `c`, the small constant added first. -/
def logp (a : Fin 1000 → EReal) (c : Fin 1000) : EReal := Ideal.log (prob a c + Ideal.ofBits .f32 0x3089705F#32)

/-- The entropy of the row. -/
def ent (a : Fin 1000 → EReal) : EReal := -∑ c, prob a c * logp a c

/-- The perturbed log-probability the sample maximises: `logp` plus the Gumbel noise of the draw. -/
def key (a u : Fin 1000 → EReal) (c : Fin 1000) : EReal := logp a c + -Ideal.log (-Ideal.log (u c))

/-- `c` is the first index at which `K` is largest. -/
def FirstMax {n : ℕ} (K : Fin n → EReal) (c : Fin n) : Prop := ∀ c', K c' ≤ K c ∧ (c' < c → K c' < K c)

/-- There is at most one such index. -/
theorem FirstMax.unique {n : ℕ} {K : Fin n → EReal} {c d : Fin n} (hc : FirstMax K c) (hd : FirstMax K d) : c = d := by
  rcases lt_trichotomy c d with h | h | h
  · exact absurd ((hd c).2 h) (not_lt.mpr (hc d).1)
  · exact h
  · exact absurd ((hc d).2 h) (not_lt.mpr (hd c).1)

/-- `r` is the sampled category's log-probability plus the entropy. -/
def Sampled (a u : Fin 1000 → EReal) (r : EReal) : Prop := ∃ c, FirstMax (key a u) c ∧ r = logp a c + ent a

/-- The rows determine the sample's value. -/
theorem Sampled.unique {a u : Fin 1000 → EReal} {r r' : EReal} (h : Sampled a u r) (h' : Sampled a u r') : r = r' := by
  obtain ⟨c, hc, rfl⟩ := h
  obtain ⟨d, hd, rfl⟩ := h'
  rw [hc.unique hd]

/-! ## The running comparison along tiles -/

/-- Among the positions from `lo` up to but not including `hi`, `τ` is the first at which `K` is largest. -/
structure Best (K : ℕ → EReal) (lo hi τ : ℕ) : Prop where
  ge : lo ≤ τ
  lt : τ < hi
  le_of : ∀ t, lo ≤ t → t < hi → K t ≤ K τ
  lt_of : ∀ t, lo ≤ t → t < τ → K t < K τ

/-- A single position is the best of itself. -/
theorem Best.one (K : ℕ → EReal) (t : ℕ) : Best K t (t + 1) t :=
  ⟨le_rfl, Nat.lt_succ_self t, fun s h h' => by rw [show s = t by omega], fun s h h' => by omega⟩

/-- Two neighbouring ranges: where the later range's value is strictly larger its position is the best of both, -/
theorem Best.take_right {K : ℕ → EReal} {lo mid hi a b : ℕ} (ha : Best K lo mid a) (hb : Best K mid hi b) (h : K a < K b) :
    Best K lo hi b := by
  refine ⟨ha.ge.trans (ha.lt.le.trans hb.ge), hb.lt, fun t h0 h1 => ?_, fun t h0 h1 => ?_⟩
  · by_cases hm : t < mid
    · exact (ha.le_of t h0 hm).trans h.le
    · exact hb.le_of t (by omega) h1
  · by_cases hm : t < mid
    · exact (ha.le_of t h0 hm).trans_lt h
    · exact hb.lt_of t (by omega) h1

/-- and otherwise the earlier range's is. -/
theorem Best.take_left {K : ℕ → EReal} {lo mid hi a b : ℕ} (ha : Best K lo mid a) (hb : Best K mid hi b) (h : ¬ K a < K b) :
    Best K lo hi a := by
  have h := not_lt.mp h
  refine ⟨ha.ge, ha.lt.trans_le (hb.ge.trans hb.lt.le), fun t h0 h1 => ?_, fun t h0 h1 => ha.lt_of t h0 h1⟩
  by_cases hm : t < mid
  · exact ha.le_of t h0 hm
  · exact (hb.le_of t (by omega) h1).trans h

/-! ## The choice among the eight sublanes -/

/-- Sublane `s` holds the categories `8 t + s`; if each sublane's first best tile is `τ s`, and `s` is a sublane whose
    best value is the largest of the eight and whose category is the least among such sublanes, then that category is
    the first at which `K` is largest. -/
theorem firstMax_of_sublanes (K : Fin 1000 → EReal) (K' : ℕ → EReal) (hK : ∀ c : Fin 1000, K c = K' c) (τ : Fin 8 → ℕ)
    (hτ : ∀ s : Fin 8, Best (fun t => K' (8 * t + s)) 0 125 (τ s)) (s : Fin 8)
    (hmax : ∀ s' : Fin 8, K' (8 * τ s' + s') ≤ K' (8 * τ s + s))
    (hmin : ∀ s' : Fin 8, K' (8 * τ s' + s') = K' (8 * τ s + s) → 8 * τ s + s ≤ 8 * τ s' + s')
    (c : Fin 1000) (hc : (c : ℕ) = 8 * τ s + s) : FirstMax K c := by
  intro c'
  rw [hK, hK, hc]
  have hs' : (c' : ℕ) % 8 < 8 := Nat.mod_lt _ (by norm_num)
  have hlt := c'.isLt
  have e : 8 * ((c' : ℕ) / 8) + (c' : ℕ) % 8 = c' := by omega
  have h1 := (hτ ⟨(c' : ℕ) % 8, hs'⟩).le_of ((c' : ℕ) / 8) (Nat.zero_le _) (by omega)
  have h2 := hmax ⟨(c' : ℕ) % 8, hs'⟩
  have h3 := hmin ⟨(c' : ℕ) % 8, hs'⟩
  have h4 := (hτ ⟨(c' : ℕ) % 8, hs'⟩).lt_of ((c' : ℕ) / 8) (Nat.zero_le _)
  simp only [e] at h1 h2 h3 h4
  refine ⟨h1.trans h2, fun hl => lt_of_le_of_ne (h1.trans h2) fun heq => ?_⟩
  have h5 := le_antisymm h2 (heq ▸ h1)
  have h6 := h3 h5
  have h7 : (c' : ℕ) / 8 < τ ⟨(c' : ℕ) % 8, hs'⟩ := by
    have : (c' : ℕ) < c := by exact_mod_cast hl
    omega
  have h8 := h4 h7
  rw [heq, h5] at h8
  exact lt_irrefl _ h8

/-- The least of a family of words under the signed order, from a starting word: no greater than the start or any
    member, and itself the start or a member. -/
theorem fold_minsi {ι : Type} [DecidableEq ι] (g : ι → BitVec 32) (init : BitVec 32) (S : Finset ι) :
    (S.fold IntOp.minsi init g).toInt ≤ init.toInt ∧ (∀ i ∈ S, (S.fold IntOp.minsi init g).toInt ≤ (g i).toInt)
      ∧ (S.fold IntOp.minsi init g = init ∨ ∃ i ∈ S, S.fold IntOp.minsi init g = g i) := by
  induction S using Finset.induction_on with
  | empty => simp
  | insert i S hi ih =>
    rw [Finset.fold_insert hi]
    obtain ⟨h0, h1, h2⟩ := ih
    have key : ∀ a b : BitVec 32, (IntOp.minsi a b).toInt ≤ a.toInt ∧ (IntOp.minsi a b).toInt ≤ b.toInt
        ∧ (IntOp.minsi a b = a ∨ IntOp.minsi a b = b) := by
      intro a b
      unfold IntOp.minsi
      by_cases h : a.toInt < b.toInt
      · rw [if_pos (by simpa [BitVec.slt] using h)]
        exact ⟨le_rfl, h.le, .inl rfl⟩
      · rw [if_neg (by simpa [BitVec.slt] using h)]
        exact ⟨not_lt.mp h, le_rfl, .inr rfl⟩
    obtain ⟨k0, k1, k2⟩ := key (g i) (S.fold IntOp.minsi init g)
    refine ⟨k1.trans h0, ?_, ?_⟩
    · intro j hj
      rcases Finset.mem_insert.mp hj with rfl | hj
      · exact k0
      · exact k1.trans (h1 j hj)
    · rcases k2 with k2 | k2
      · exact .inr ⟨i, Finset.mem_insert_self _ _, k2⟩
      · rw [k2]
        rcases h2 with h2 | ⟨j, hj, h2⟩
        · exact .inl h2
        · exact .inr ⟨j, Finset.mem_insert_of_mem hj, h2⟩

/-- A category's word, read as a signed number, is the category. -/
theorem toInt_small (c : ℕ) (hc : c < 1000) : (BitVec.ofNat 32 c).toInt = c := by
  rw [BitVec.toInt_eq_toNat_of_lt] <;> rw [BitVec.toNat_ofNat] <;> omega

/-! ## The fold of (value, index) pairs -/

/-- `p` is at least as good as `q`: a larger value, or the same value at an index no greater. -/
def AtLeast (p q : EReal × BitVec 32) : Prop := q.1 < p.1 ∨ (q.1 = p.1 ∧ p.2.toInt ≤ q.2.toInt)

/-- A pair is at least as good as itself. -/
theorem AtLeast.refl (p : EReal × BitVec 32) : AtLeast p p := .inr ⟨rfl, le_rfl⟩

/-- Being at least as good is transitive. -/
theorem AtLeast.trans {p q r : EReal × BitVec 32} (h : AtLeast p q) (h' : AtLeast q r) : AtLeast p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- A step that always answers one of its two pairs, and one at least as good as both, folded along a list answers
    the starting pair or a member, and one at least as good as all of them. -/
theorem foldl_atLeast {ι : Type} (f : EReal × BitVec 32 → EReal × BitVec 32 → EReal × BitVec 32)
    (hf : ∀ p q, (f p q = p ∨ f p q = q) ∧ AtLeast (f p q) p ∧ AtLeast (f p q) q) (g : ι → EReal × BitVec 32) (L : List ι) :
    ∀ init, AtLeast (L.foldl (fun r i => f r (g i)) init) init
      ∧ (∀ i ∈ L, AtLeast (L.foldl (fun r i => f r (g i)) init) (g i))
      ∧ (L.foldl (fun r i => f r (g i)) init = init ∨ ∃ i ∈ L, L.foldl (fun r i => f r (g i)) init = g i) := by
  induction L with
  | nil => intro init; exact ⟨.refl _, by simp, .inl rfl⟩
  | cons i L ih =>
    intro init
    obtain ⟨h0, h1, h2⟩ := ih (f init (g i))
    obtain ⟨k0, k1, k2⟩ := hf init (g i)
    refine ⟨h0.trans k1, ?_, ?_⟩
    · intro j hj
      rcases List.mem_cons.mp hj with rfl | hj
      · exact h0.trans k2
      · exact h1 j hj
    · rcases h2 with h2 | ⟨j, hj, h2⟩
      · rcases k0 with k0 | k0
        · exact .inl (h2.trans k0)
        · exact .inr ⟨i, List.mem_cons_self, h2.trans k0⟩
      · exact .inr ⟨j, List.mem_cons_of_mem _ hj, h2⟩

end Cert.Sampler

end
-- ==== Proof.ChainRead.lean ====
/-
  The kernel's output rows read at a lane: the value stored for sample `n` at lane `l` is a sampled value (Sampler.lean)
  of the column `l` of the two blocks.
-/
module

public import proofs.«01_k».proof.Proof.Chain
public import proofs.«01_k».proof.Proof.Sampler
public import Idealize.ShloMosaic.Lib.Pointwise

@[expose] public section

noncomputable section

namespace Cert.KernelIdeal.Chain

open Cert.KernelIdeal Cert.KernelIdeal.Gen Cert.Sampler Idealize.ShloMosaic Idealize.ShloMosaic.TcCoe
open scoped BigOperators

/-- Column `l` of a block of weights. -/
abbrev colA (x0 : Vec Ideal S1000x512 .f32) (l : Fin 512) : Fin 1000 → EReal := fun c => x0 (ix2 c l)

/-- Column `l` of sample `n` of a block of draws. -/
abbrev colU (x1 : Vec Ideal S8x1000x512 .f32) (n : Fin 8) (l : Fin 512) : Fin 1000 → EReal := fun c => x1 (ix3 n c l)

/-- The block's load reads the block. -/
theorem ld_whole (x0 : Vec Ideal S1000x512 .f32) : View.ld x0 r0_0 = x0 := by
  funext i
  refine congrArg x0 (funext fun a => Fin.ext ?_)
  match a with
  | ⟨0, _⟩ => show 0 + 1 * (i 0).val = (i 0).val; omega
  | ⟨1, _⟩ => show 0 + 1 * (i 1).val = (i 1).val; omega

/-- The kernel's quotient is the column's probability. -/
theorem pay2_at (x0 : Vec Ideal S1000x512 .f32) (c : Fin 1000) (l : Fin 512) :
    k0_pay2 x0 (ix2 c l) = prob (colA x0 l) c := by
  pointwise [k0_pay2, prob]

/-- The kernel's logarithm is the column's log-probability. -/
theorem pay3_at (x0 : Vec Ideal S1000x512 .f32) (c : Fin 1000) (l : Fin 512) :
    k0_pay3 x0 (ix2 c l) = logp (colA x0 l) c := by
  pointwise [k0_pay3, logp]
  rw [pay2_at]

/-- The kernel's negated sum is the column's entropy. -/
theorem pay4_at (x0 : Vec Ideal S1000x512 .f32) (l : Fin 512) :
    k0_pay4 x0 (ix2 0 l) = ent (colA x0 l) := by
  pointwise [k0_pay4, ent]
  simp only [pay2_at, pay3_at]
  simp

/-- Row `s` of tile `t` is category `8 t + s`. -/
theorem lpTile_at (lp : FVec Ideal S1000x512 .f32) (t : ℕ) (ht : t < 125) (s : Fin 8) (l : Fin 512) :
    lpTile lp t ht (ix2 s l) = lp (ix2 ⟨8 * t + s, by omega⟩ l) := by
  pointwise [lpTile]

/-- The load of tile `t` of sample `n` reads the draws of the categories `8 t, …, 8 t + 7`. -/
theorem ld_tile (x1 : Vec Ideal S8x1000x512 .f32) (n t : ℕ) (hn : n < 8) (ht : t < 125) (s : Fin 8) (l : Fin 512) :
    View.ld x1 (Rect.unit (s := S8x1000x512) ![n, 8 * t, 0] S1x8x512.size (inb_tile n t hn ht)) (ix3 0 s l)
      = x1 (ix3 ⟨n, hn⟩ ⟨8 * t + s, by omega⟩ l) := by
  refine congrArg x1 (funext fun a => Fin.ext ?_)
  match a with
  | ⟨0, _⟩ => show n + 1 * 0 = n; omega
  | ⟨1, _⟩ => show 8 * t + 1 * s.val = 8 * t + s.val; omega
  | ⟨2, _⟩ => show 0 + 1 * l.val = l.val; omega

/-- A tile plus the Gumbel noise of its draws, read at an index. -/
theorem noise_at (p : FVec Ideal S8x512 .f32) (z : Vec Ideal S1x8x512 .f32) (s : Fin 8) (l : Fin 512) :
    addf p (subf (broadcast S8x512 (Scalar.ofBits .f32 0x00000000#32)) (log (subf (broadcast S8x512 (Scalar.ofBits .f32 0x00000000#32))
      (log (shapeCast S8x512 z shapeCasts_S1x8x512_S8x512))))) (ix2 s l) = p (ix2 s l) + -Ideal.log (-Ideal.log (z (ix3 0 s l))) := by
  pointwise []
  simp

/-- Row `s` of tile `t`'s perturbed log-probabilities is that of category `8 t + s`. -/
theorem keyTile_at (x0 : Vec Ideal S1000x512 .f32) (x1 : Vec Ideal S8x1000x512 .f32) (n t : ℕ) (hn : n < 8) (ht : t < 125)
    (s : Fin 8) (l : Fin 512) :
    keyTile (k0_pay3 x0) x1 n t hn ht (ix2 s l) = key (colA x0 l) (colU x1 ⟨n, hn⟩ l) ⟨8 * t + s, by omega⟩ := by
  refine (noise_at _ _ s l).trans ?_
  rw [ld_tile x1 n t hn ht s l, lpTile_at _ t ht s l, pay3_at, key]

/-! ## The running comparison -/

/-- A function of the categories, continued by zero to all numbers. -/
def ext (f : Fin 1000 → EReal) (c : ℕ) : EReal := if h : c < 1000 then f ⟨c, h⟩ else 0

/-- On the categories the continuation is the function. -/
theorem ext_of_lt (f : Fin 1000 → EReal) {c : ℕ} (h : c < 1000) : ext f c = f ⟨c, h⟩ := dif_pos h

/-- At sublane `s` and lane `l` the entries `A` are those of the first best tile of a range: its value, its
    log-probability and its number. -/
def Reads (K L : Fin 1000 → EReal) (s : Fin 8) (l : Fin 512) (lo hi : ℕ) (A : Acc Ideal) : Prop :=
  ∃ τ, Best (fun t => ext K (8 * t + s)) lo hi τ ∧ A.key (ix2 s l) = ext K (8 * τ + s) ∧ A.lp (ix2 s l) = ext L (8 * τ + s)
    ∧ A.tile (ix2 s l) = BitVec.ofNat 32 τ

/-- Joining the entries of two neighbouring ranges gives those of both. -/
theorem Reads.take {K L : Fin 1000 → EReal} {s : Fin 8} {l : Fin 512} {lo mid hi : ℕ} {A B : Acc Ideal}
    (hA : Reads K L s l lo mid A) (hB : Reads K L s l mid hi B) : Reads K L s l lo hi (A.take B) := by
  obtain ⟨a, ha, hak, hal, hat⟩ := hA
  obtain ⟨b, hb, hbk, hbl, hbt⟩ := hB
  have hk : (A.take B).key (ix2 s l) = max (B.key (ix2 s l)) (A.key (ix2 s l)) := rfl
  have hl : (A.take B).lp (ix2 s l) = if A.key (ix2 s l) < B.key (ix2 s l) then B.lp (ix2 s l) else A.lp (ix2 s l) := by
    show Scalar.select (Ideal.cmp .ogt (B.key (ix2 s l)) (A.key (ix2 s l))) _ _ = _
    by_cases h : A.key (ix2 s l) < B.key (ix2 s l) <;> simp [Scalar.select, Ideal.cmp, h]
  have ht : (A.take B).tile (ix2 s l) = if A.key (ix2 s l) < B.key (ix2 s l) then B.tile (ix2 s l) else A.tile (ix2 s l) := by
    show Scalar.select (Ideal.cmp .ogt (B.key (ix2 s l)) (A.key (ix2 s l))) _ _ = _
    by_cases h : A.key (ix2 s l) < B.key (ix2 s l) <;> simp [Scalar.select, Ideal.cmp, h]
  rw [hak, hbk] at hk hl ht
  by_cases h : ext K (8 * a + s) < ext K (8 * b + s)
  · rw [if_pos h] at hl ht
    exact ⟨b, ha.take_right hb h, hk.trans (max_eq_left h.le), hl.trans hbl, ht.trans hbt⟩
  · rw [if_neg h] at hl ht
    exact ⟨a, ha.take_left hb h, hk.trans (max_eq_right (not_lt.mp h)), hl.trans hal, ht.trans hat⟩

variable (x0 : Vec Ideal S1000x512 .f32) (x1 : Vec Ideal S8x1000x512 .f32) (n : ℕ) (hn : n < 8) (s : Fin 8) (l : Fin 512)

/-- A single tile reads its own entries. -/
theorem reads_one (t : ℕ) (ht : t < 125) :
    Reads (key (colA x0 l) (colU x1 ⟨n, hn⟩ l)) (logp (colA x0 l)) s l t (t + 1) (one (k0_pay3 x0) x1 n t hn ht) := by
  refine ⟨t, Best.one _ t, ?_, ?_, rfl⟩
  · rw [ext_of_lt _ (by omega)]
    exact keyTile_at x0 x1 n t hn ht s l
  · rw [ext_of_lt _ (by omega)]
    exact (lpTile_at _ t ht s l).trans (pay3_at x0 _ l)

/-- The recursion along the tiles reads the best of its range. -/
theorem reads_chain (t₀ k : ℕ) (h : t₀ + k < 125) :
    Reads (key (colA x0 l) (colU x1 ⟨n, hn⟩ l)) (logp (colA x0 l)) s l t₀ (t₀ + k + 1) (chain (k0_pay3 x0) x1 n t₀ hn k h) := by
  induction k with
  | zero => exact reads_one x0 x1 n hn s l t₀ h
  | succ k ih => exact (ih (by omega)).take (reads_one x0 x1 n hn s l (t₀ + (k + 1)) h)

/-! ## The choice among the sublanes -/

/-- The word of a category that a tile's number and a sublane stand for. -/
theorem word_eq (τ : ℕ) : IntOp.addi (IntOp.muli (BitVec.ofNat 32 τ) 8#32) (BitVec.ofNat 32 (s : ℕ)) = BitVec.ofNat 32 (8 * τ + s) := by
  rw [IntOp.addi, IntOp.muli, ← BitVec.ofNat_mul, ← BitVec.ofNat_add, Nat.mul_comm]

/-- The largest of eight values, folded from `-∞`, bounds them all and is one of them. -/
theorem fold_max (k : Fin 8 → EReal) :
    (∀ i, k i ≤ Finset.univ.fold max (⊥ : EReal) k) ∧ ∃ i, k i = Finset.univ.fold max (⊥ : EReal) k := by
  have h0 : ∀ i, k i ≤ Finset.univ.fold max (⊥ : EReal) k := fun i =>
    (Finset.le_fold_max _).mpr (.inr ⟨i, Finset.mem_univ i, le_rfl⟩)
  refine ⟨h0, ?_⟩
  rcases (Finset.le_fold_max _).mp (le_refl (Finset.univ.fold max (⊥ : EReal) k)) with h | ⟨i, -, h⟩
  · exact ⟨0, le_antisymm (h0 0) (h.trans bot_le)⟩
  · exact ⟨i, le_antisymm (h0 i) h⟩

/-- From the eight sublanes' best tiles: the log-probability summed where the category's word is the least among those
    of the largest value is that of the first category with the largest value of all. -/
theorem choice (K L : Fin 1000 → EReal) (τ : Fin 8 → ℕ) (hτ : ∀ s : Fin 8, Best (fun t => ext K (8 * t + s)) 0 125 (τ s))
    (k p : Fin 8 → EReal) (w : Fin 8 → BitVec 32) (hk : ∀ s, k s = ext K (8 * τ s + s)) (hp : ∀ s, p s = ext L (8 * τ s + s))
    (hw : ∀ s, w s = BitVec.ofNat 32 (8 * τ s + s)) :
    ∃ d : Fin 1000, FirstMax K d ∧ ∑ x, Scalar.select (IntOp.cmpi .eq (w x) (Finset.univ.fold IntOp.minsi 2147483647#32
      (fun x => if k x = Finset.univ.fold max (⊥ : EReal) k then w x else 1073741824#32))) (p x) 0 = L d := by
  obtain ⟨hmax, i, hi⟩ := fold_max k
  generalize Finset.univ.fold max (⊥ : EReal) k = M at hmax hi ⊢
  obtain ⟨-, h1, h2⟩ := fold_minsi (fun x => if k x = M then w x else 1073741824#32) 2147483647#32 Finset.univ
  generalize Finset.univ.fold IntOp.minsi 2147483647#32 (fun x => if k x = M then w x else 1073741824#32) = r at h1 h2 ⊢
  have hlt : ∀ x : Fin 8, 8 * τ x + x < 1000 := fun x => by have := (hτ x).lt; omega
  have hwi : ∀ x, (w x).toInt = (8 * τ x + x : ℕ) := fun x => by rw [hw, toInt_small _ (hlt x)]
  have hle : ∀ x, k x = M → r.toInt ≤ (8 * τ x + x : ℕ) := fun x hx => by
    have := h1 x (Finset.mem_univ x)
    rwa [if_pos hx, hwi] at this
  have hri := hle i hi
  have hli := hlt i
  have hr : ∃ s, k s = M ∧ r = w s := by
    rcases h2 with h2 | ⟨s, -, h2⟩
    · exfalso
      rw [h2, show (2147483647#32 : BitVec 32).toInt = 2147483647 by decide] at hri
      omega
    · by_cases h : k s = M
      · exact ⟨s, h, by rw [h2, if_pos h]⟩
      · exfalso
        rw [h2, if_neg h, show (1073741824#32 : BitVec 32).toInt = 1073741824 by decide] at hri
        omega
  obtain ⟨s, hs, rfl⟩ := hr
  refine ⟨⟨8 * τ s + s, hlt s⟩, ?_, ?_⟩
  · refine firstMax_of_sublanes K (ext K) (fun c => (ext_of_lt K c.isLt).symm) τ hτ s (fun s' => ?_) (fun s' h => ?_) _ rfl
    · rw [← hk, ← hk, hs]; exact hmax s'
    · rw [← hk, ← hk, hs] at h
      have := hle s' h
      rw [hwi] at this
      exact_mod_cast this
  · have hsel : ∀ x, Scalar.select (IntOp.cmpi .eq (w x) (w s)) (p x) 0 = if x = s then p x else 0 := by
      intro x
      by_cases h : x = s
      · subst h; simp [Scalar.select, IntOp.cmpi]
      · have hne : w x ≠ w s := fun h' => h (Fin.ext (by
          have := congrArg BitVec.toInt h'
          rw [hwi, hwi] at this
          omega))
        rw [if_neg h, IntOp.cmpi, beq_eq_false_iff_ne.mpr hne]; rfl
    simp only [hsel]
    rw [Finset.sum_ite_eq' Finset.univ s p, if_pos (Finset.mem_univ s), hp, ext_of_lt L (hlt s)]

/-- The row finished from entries that read the best of all tiles at every sublane. -/
theorem finish_at (K L : Fin 1000 → EReal) (e : FVec Ideal S1x512 .f32) (a : Acc Ideal) (h : ∀ s, Reads K L s l 0 125 a) :
    ∃ d, FirstMax K d ∧ finish e a (ix2 0 l) = L d + e (ix2 0 l) := by
  choose τ hτ hk hp ht using h
  obtain ⟨d, hd, hsum⟩ := choice K L τ hτ (fun s => a.key (ix2 s l)) (fun s => a.lp (ix2 s l))
    (fun s => IntOp.addi (IntOp.muli (a.tile (ix2 s l)) 8#32) (BitVec.ofNat 32 (s : ℕ))) hk hp
    (fun s => by rw [ht]; exact word_eq s _)
  have hb : Ideal.ofBits .f32 0xFF800000#32 = ⊥ := by simp [Ideal.ofBits, Ideal.ieee]
  refine ⟨d, hd, ?_⟩
  pointwise [finish]
  rw [hb]
  exact congrArg (· + e (ix2 0 l)) hsum

/-- The row the kernel stores for sample `n` holds at lane `l` a sampled value of the blocks' columns there. -/
theorem rowOut_at : Sampled (colA x0 l) (colU x1 ⟨n, hn⟩ l) (rowOut x0 x1 n hn (ix2 0 l)) := by
  obtain ⟨d, hd, he⟩ := finish_at l (key (colA x0 l) (colU x1 ⟨n, hn⟩ l)) (logp (colA x0 l)) (k0_pay4 x0)
    ((chain (k0_pay3 x0) x1 n 0 hn 61 (by omega)).take (chain (k0_pay3 x0) x1 n 62 hn 62 (by omega)))
    (fun s => (reads_chain x0 x1 n hn s l 0 61 (by omega)).take (reads_chain x0 x1 n hn s l 62 62 (by omega)))
  refine ⟨d, hd, ?_⟩
  rw [rowOut, ld_whole, he, pay4_at]

end Cert.KernelIdeal.Chain

end
-- ==== Proof.KernelSide.lean ====
/-
  The kernel's result array: each entry is a sampled value (Sampler.lean) of its row of the argument arrays.
-/
module

public import proofs.«01_k».proof.Proof.ChainRead
public import proofs.«01_k».proof.Proof.Gen.KernelIdeal.Value
public import Idealize.ShloMosaic.Lib.Pipeline.ValueKit.Point

@[expose] public section

noncomputable section

namespace Cert.KernelIdeal.Side

open Cert.KernelIdeal Cert.KernelIdeal.Gen Cert.KernelIdeal.Chain Cert.Sampler
open Idealize.ShloMosaic Idealize.ShloMosaic.TcCoe Idealize.SL.Sem

/-- A stored row depends on its sample and lane only through their values. -/
theorem rowOut_congr (x0 : Vec Ideal S1000x512 .f32) (x1 : Vec Ideal S8x1000x512 .f32) {r r' : ℕ} (h : r = r') (hr : r < 8)
    (hr' : r' < 8) {x x' : S1x512.Idx} (hx : x = x') : rowOut x0 x1 r hr x = rowOut x0 x1 r' hr' x' := by
  subst h hx; rfl

/-- The row of sample `r`, placed as row `r` of the block. -/
theorem piece_at (x0 : Vec Ideal S1000x512 .f32) (x1 : Vec Ideal S8x1000x512 .f32) (r : ℕ) (hr : r < 8)
    (inb : ∀ a, (![r, 0] : Fin 2 → ℕ) a + S1x512.size a ≤ S8x512.size a) (x : S1x512.Idx) :
    rowOut x0 x1 r hr x = (fun y : S8x512.Idx => rowOut x0 x1 (y 0) (y 0).isLt (ix2 0 (y 1)))
      ((Rect.unit (s := S8x512) ![r, 0] S1x512.size inb).emb x) := by
  have h0 : (x 0).val < 1 := (x 0).isLt
  have e0 : (((Rect.unit (s := S8x512) ![r, 0] S1x512.size inb).emb x) 0).val = r := by
    show r + 1 * (x 0).val = r; omega
  have e1 : ((Rect.unit (s := S8x512) ![r, 0] S1x512.size inb).emb x) 1 = x 1 := Fin.ext (by
    show 0 + 1 * (x 1).val = (x 1).val; omega)
  have ex : x = ix2 0 (x 1) := funext fun a => Fin.ext (by
    match a with
    | ⟨0, _⟩ => show (x 0).val = 0; omega
    | ⟨1, _⟩ => rfl)
  exact rowOut_congr x0 x1 e0.symm hr _ (ex.trans (congrArg (ix2 0) e1.symm))

/-- Row `n` of the block the kernel stores is the row computed for sample `n`. -/
theorem out_at (x0 : Vec Ideal S1000x512 .f32) (x1 : Vec Ideal S8x1000x512 .f32) (n : Fin 8) (l : Fin 512) :
    out0_2 x0 x1 (ix2 n l) = rowOut x0 x1 n n.isLt (ix2 0 l) := by
  rw [out_rows]
  refine (View.canon_apply_of_pieces (fun y : S8x512.Idx => rowOut x0 x1 (y 0) (y 0).isLt (ix2 0 (y 1))) _ ?_ (ix2 n l)
    (cover0_2 _ _ _ _ _ _ _ _ _)).trans rfl
  simp only [List.mem_cons, List.not_mem_nil, or_false, forall_eq_or_imp, forall_eq]
  refine ⟨?_, ?_, ?_, ?_, ?_, ?_, ?_, ?_⟩ <;> intro x <;> exact piece_at x0 x1 _ _ _ x

variable (m : (ℓ : Loc nD τ sig) → Buf (Elt Ideal) ℓ) (ρ : Dev nD → PrngReg) (c : Dev nD)

/-- The windows' block indices at each point. -/
theorem idx (t : Fin cfg0.N) : win0_0.index t 0 = 0 ∧ win0_0.index t 1 = t.val ∧ win0_1.index t 0 = 0 ∧ win0_1.index t 1 = 0
    ∧ win0_1.index t 2 = t.val ∧ win0_2.index t 0 = 0 ∧ win0_2.index t 1 = t.val :=
  (by decide +kernel : ∀ t : Fin grid0.N, win0_0.index t 0 = 0 ∧ win0_0.index t 1 = t.val ∧ win0_1.index t 0 = 0
    ∧ win0_1.index t 1 = 0 ∧ win0_1.index t 2 = t.val ∧ win0_2.index t 0 = 0 ∧ win0_2.index t 1 = t.val) t

/-- Lane `l` of the weights' block at point `t` is row `512 t + l` of the weights. -/
theorem blk0_at (t : Fin cfg0.N) (k : Fin 1000) (l : Fin 512) (b : Fin 4096) (hb : (b : ℕ) = 512 * t.val + l) :
    (iblk m c 0 t : Vec Ideal S1000x512 .f32) (ix2 k l) = m ((c : Thread nD τ).loc main_arg0) (ix2 b k) := by
  blk_ext! [iblk, V, idx t]

/-- Lane `l` of the draws' block at point `t` is row `512 t + l` of the draws. -/
theorem blk1_at (t : Fin cfg0.N) (n : Fin 8) (k : Fin 1000) (l : Fin 512) (b : Fin 4096) (hb : (b : ℕ) = 512 * t.val + l) :
    (iblk m c 1 t : Vec Ideal S8x1000x512 .f32) (ix3 n k l) = m ((c : Thread nD τ).loc main_arg1) (ix3 n b k) := by
  blk_ext! [iblk, V, idx t]

/-- Every entry of the kernel's result array is a sampled value of its row of the arguments. -/
theorem arr_at (n : Fin 8) (b : Fin 4096) :
    Sampled (fun k => m ((c : Thread nD τ).loc main_arg0) (ix2 b k)) (fun k => m ((c : Thread nD τ).loc main_arg1) (ix3 n b k))
      ((dats m 0 c).arrAt 2 cfg0.N (ix2 n b)) := by
  have hN : cfg0.N = 8 := N_0
  obtain ⟨t, ht⟩ : ∃ t : Fin cfg0.N, t.val = b.val / 512 := ⟨⟨b.val / 512, by omega⟩, rfl⟩
  obtain ⟨l, hl⟩ : ∃ l : Fin 512, l.val = b.val % 512 := ⟨⟨b.val % 512, by omega⟩, rfl⟩
  have hb : (b : ℕ) = 512 * t.val + l := by omega
  have hr : (dats m 0 c).arrAt 2 cfg0.N (ix2 n b) = out0_2 (iblk m c 0 t) (iblk m c 1 t) (ix2 n l) := by
    have h := (Value.blocks2 m c t (flush0_2 t)).trans (Value.flushed2 m c t)
    refine Eq.trans ?_ (congrFun h (ix2 n l))
    generalize (dats m 0 c).arrAt 2 cfg0.N = A
    blk_ext [idx t]
  rw [hr, out_at]
  have h := rowOut_at (iblk m c 0 t) (iblk m c 1 t) n n.isLt l
  have e0 : colA (iblk m c 0 t) l = fun k => m ((c : Thread nD τ).loc main_arg0) (ix2 b k) :=
    funext fun k => blk0_at m c t k l b hb
  have e1 : colU (iblk m c 1 t) ⟨n, n.isLt⟩ l = fun k => m ((c : Thread nD τ).loc main_arg1) (ix3 n b k) :=
    funext fun k => blk1_at m c t n k l b hb
  rwa [e0, e1] at h

end Cert.KernelIdeal.Side

end
-- ==== Proof.RefSide.lean ====
/-
  The reference's side: what it computes as one expression over the two argument arrays, and
  that expression read at sample `n` of row `b`: a sampled value of that row (Sampler.lean).
-/
module

public import proofs.«01_k».proof.Defs
public import proofs.«01_k».proof.Proof.Gen.ReferenceIdeal
public import proofs.«01_k».proof.Proof.Sampler
public import Idealize.ShloMosaic.Lib.Claim
public import Idealize.ShloMosaic.Lib.Pointwise

@[expose] public section

noncomputable section

namespace Cert.RefSide

open Idealize.ShloMosaic Idealize.ShloMosaic.TcCoe Idealize.SL.Sem Cert.ReferenceIdeal Cert.ReferenceIdeal.Facts₀ Cert.Sampler

/-- The probabilities. -/
def probV (A : FVec Ideal S4096x1000 .f32) : FVec Ideal S4096x1000 .f32 :=
  Host.divf A (broadcastInDim S4096x1000 ![0, 1] bcast_S4096x1_S4096x1000_0_1
    (broadcastInDim S4096x1 ![0] bcast_S4096_S4096x1_0
      (Host.reduceAdd A (constant S_ .f32 0x00000000#32) reducesTo_S4096x1000_S4096_d1 h_S_)))

/-- The log-probabilities. -/
def logpV (A : FVec Ideal S4096x1000 .f32) : FVec Ideal S4096x1000 .f32 :=
  Host.log (addf (probV A) (broadcastInDim S4096x1000 ![] bcast_S_S4096x1000 (constant S_ .f32 0x3089705F#32)))

/-- The entropies. -/
def entV (A : FVec Ideal S4096x1000 .f32) : FVec Ideal S4096 .f32 :=
  Host.negf (Host.reduceAdd (mulf (probV A) (logpV A)) (constant S_ .f32 0x00000000#32) reducesTo_S4096x1000_S4096_d1 h_S_)

/-- The log-probabilities, once per sample. -/
def logpB (A : FVec Ideal S4096x1000 .f32) : FVec Ideal S8x4096x1000 .f32 :=
  broadcastInDim S8x4096x1000 ![0, 1, 2] bcast_S1x4096x1000_S8x4096x1000_0_1_2
    (broadcastInDim S1x4096x1000 ![1, 2] bcast_S4096x1000_S1x4096x1000_1_2 (logpV A))

/-- The perturbed log-probabilities. -/
def keyV (A : FVec Ideal S4096x1000 .f32) (U : FVec Ideal S8x4096x1000 .f32) : FVec Ideal S8x4096x1000 .f32 :=
  addf (logpB A) (Host.negf (Host.log (Host.negf (Host.log U))))

/-- Their largest entries, each with its index. -/
def pairV (X : FVec Ideal S8x4096x1000 .f32) : S8x4096.Idx → Ideal .f32 × BitVec 32 :=
  Host.argReduce reducer_argmax_f32_i32 X (iotaInDim S8x4096x1000 32 2) (constant S_ .f32 0xFF800000#32)
    (constantI S_ 32 0#32) reducesTo_S8x4096x1000_S8x4096_d2 h_S_

/-- The indices of (value, index) pairs. -/
def idxV (P : S8x4096.Idx → Ideal .f32 × BitVec 32) : IVec S8x4096 32 := fun j => (P j).2

/-- The indicator of an index. -/
def hotV (I : IVec S8x4096 32) : FVec Ideal S8x4096x1000 .f32 :=
  uitofp .f32 (cmpi .eq
    (broadcastInDim S8x4096x1000 ![0, 1, 2] bcast_S8x4096x1_S8x4096x1000_0_1_2
      (broadcastInDim S8x4096x1 ![0, 1] bcast_S8x4096_S8x4096x1_0_1 I))
    (broadcastInDim S8x4096x1000 ![0, 1, 2] bcast_S1x1x1000_S8x4096x1000_0_1_2 (iotaInDim S1x1x1000 32 2)))

/-- The reference's result. -/
def outV (A : FVec Ideal S4096x1000 .f32) (U : FVec Ideal S8x4096x1000 .f32) : FVec Ideal S8x4096 .f32 :=
  addf
    (Host.reduceAdd (mulf (hotV (idxV (pairV (keyV A U)))) (logpB A)) (constant S_ .f32 0x00000000#32)
      reducesTo_S8x4096x1000_S8x4096_d2 h_S_)
    (broadcastInDim S8x4096 ![0, 1] bcast_S1x4096_S8x4096_0_1
      (mulf (broadcastInDim S1x4096 ![] bcast_S_S1x4096 (constant S_ .f32 0x3F800000#32))
        (broadcastInDim S1x4096 ![1] bcast_S4096_S1x4096_1 (entV A))))

/-! ## Reading at an index -/

/-- Row `b` of the weights. -/
abbrev rowA (A : FVec Ideal S4096x1000 .f32) (b : Fin 4096) : Fin 1000 → EReal := fun c => A (ix2 b c)

/-- The draws of sample `n` for row `b`. -/
abbrev rowU (U : FVec Ideal S8x4096x1000 .f32) (n : Fin 8) (b : Fin 4096) : Fin 1000 → EReal := fun c => U (ix3 n b c)

/-- The probabilities' array holds each row's probabilities. -/
theorem probV_at (A : FVec Ideal S4096x1000 .f32) (b : Fin 4096) (c : Fin 1000) :
    probV A (ix2 b c) = prob (rowA A b) c := by
  pointwise [probV, prob, rowA]

/-- The log-probabilities' array holds each row's log-probabilities. -/
theorem logpV_at (A : FVec Ideal S4096x1000 .f32) (b : Fin 4096) (c : Fin 1000) :
    logpV A (ix2 b c) = logp (rowA A b) c := by
  pointwise [logpV, logp]
  rw [probV_at]

/-- The entropies' array holds each row's entropy. -/
theorem entV_at (A : FVec Ideal S4096x1000 .f32) (b : Fin 4096) : entV A (ix1 b) = ent (rowA A b) := by
  pointwise [entV, ent]
  simp only [probV_at, logpV_at]

/-- Every sample's copy of the log-probabilities is the same. -/
theorem logpB_at (A : FVec Ideal S4096x1000 .f32) (n : Fin 8) (b : Fin 4096) (c : Fin 1000) :
    logpB A (ix3 n b c) = logp (rowA A b) c := by
  pointwise [logpB]
  rw [logpV_at]

/-- The perturbed array holds each sample's and row's perturbed log-probabilities. -/
theorem keyV_at (A : FVec Ideal S4096x1000 .f32) (U : FVec Ideal S8x4096x1000 .f32) (n : Fin 8) (b : Fin 4096) (c : Fin 1000) :
    keyV A U (ix3 n b c) = key (rowA A b) (rowU U n b) c := by
  pointwise [keyV, key, rowU]
  rw [logpB_at]

/-- The indicator is one at the index and zero elsewhere. -/
theorem hotV_at (I : IVec S8x4096 32) (n : Fin 8) (b : Fin 4096) (c : Fin 1000) :
    hotV I (ix3 n b c) = if I (ix2 n b) = BitVec.ofNat 32 c then 1 else 0 := by
  pointwise [hotV]
  by_cases h : I (ix2 n b) = BitVec.ofNat 32 c
  · rw [if_pos h, h]
    show (((IntOp.cmpi .eq (BitVec.ofNat 32 (c : ℕ)) (BitVec.ofNat 32 (c : ℕ))).toNat : ℝ) : EReal) = 1
    simp [IntOp.cmpi]
  · rw [if_neg h]
    show (((IntOp.cmpi .eq (I (ix2 n b)) (BitVec.ofNat 32 (c : ℕ))).toNat : ℝ) : EReal) = 0
    simp [IntOp.cmpi, h]

/-! ## The largest entry's index -/

/-- The reducer answers one of its two pairs, and one at least as good as both. -/
theorem reducer_atLeast (p q : EReal × BitVec 32) :
    (reducer_argmax_f32_i32 (F := Ideal) p q = p ∨ reducer_argmax_f32_i32 (F := Ideal) p q = q)
      ∧ AtLeast (reducer_argmax_f32_i32 (F := Ideal) p q) p ∧ AtLeast (reducer_argmax_f32_i32 (F := Ideal) p q) q := by
  obtain ⟨x, i⟩ := p
  obtain ⟨y, j⟩ := q
  have e : reducer_argmax_f32_i32 (F := Ideal) (x, i) (y, j)
      = (if y < x then x else y, if y < x ∨ (x = y ∧ i.toInt < j.toInt) then i else j) := by
    simp only [reducer_argmax_f32_i32, Ideal.cmpf_def, Ideal.cmp, Scalar.select, IntOp.ori, IntOp.andi, IntOp.cmpi, BitVec.slt]
    by_cases h1 : y < x <;> by_cases h2 : x = y <;> by_cases h3 : i.toInt < j.toInt <;> simp [h1, h2, h3]
  rw [e]
  rcases lt_trichotomy x y with h | h | h
  · rw [if_neg (not_lt.mpr h.le), if_neg (by rintro (h' | h'); exacts [absurd h (not_lt.mpr h'.le), absurd h'.1 h.ne])]
    exact ⟨.inr rfl, .inl h, .refl _⟩
  · subst h
    rw [if_neg (lt_irrefl x)]
    by_cases hij : i.toInt < j.toInt
    · rw [if_pos (.inr ⟨rfl, hij⟩)]
      exact ⟨.inl rfl, .refl _, .inr ⟨rfl, hij.le⟩⟩
    · rw [if_neg (by rintro (h' | h'); exacts [absurd h' (lt_irrefl x), absurd h'.2 hij])]
      exact ⟨.inr rfl, .inr ⟨rfl, not_lt.mp hij⟩, .refl _⟩
  · rw [if_pos h, if_pos (.inl h)]
    exact ⟨.inl rfl, .refl _, .inl h⟩

/-- What a reduction of (value, index) pairs with such a reducer answers: one at least as good as each pair of the
    reduced positions, and the starting pair or one of those pairs. -/
theorem reduce2_atLeast {s t u : Shape} {axes : List (Fin s.rank)} (f : EReal × BitVec 32 → EReal × BitVec 32 → EReal × BitVec 32)
    (hf : ∀ p q, (f p q = p ∨ f p q = q) ∧ AtLeast (f p q) p ∧ AtLeast (f p q) q) (X : s.Idx → EReal) (Y : s.Idx → BitVec 32)
    (ix : u.Idx → EReal) (iy : u.Idx → BitVec 32) (h : s.ReducesTo axes t) (hu : 0 < u.numel) (j : t.Idx) :
    (∀ i, h.drop i = j → AtLeast (Host.reduce2 f X Y ix iy h hu j) (X i, Y i))
      ∧ (Host.reduce2 f X Y ix iy h hu j = (ix (Shape.Idx.first hu), iy (Shape.Idx.first hu))
        ∨ ∃ i, h.drop i = j ∧ Host.reduce2 f X Y ix iy h hu j = (X i, Y i)) := by
  obtain ⟨-, h1, h2⟩ := foldl_atLeast f hf (fun n => (X (s.rowMajor.symm n), Y (s.rowMajor.symm n)))
    ((List.finRange s.numel).filter fun n => h.drop (s.rowMajor.symm n) = j) (ix (Shape.Idx.first hu), iy (Shape.Idx.first hu))
  refine ⟨fun i hi => ?_, ?_⟩
  · have := h1 (s.rowMajor i) (List.mem_filter.mpr ⟨List.mem_finRange _, by
      rw [Equiv.symm_apply_apply]; exact decide_eq_true hi⟩)
    simpa only [Host.reduce2, Equiv.symm_apply_apply] using this
  · rcases h2 with h2 | ⟨n, hn, h2⟩
    · exact .inl h2
    · exact .inr ⟨_, of_decide_eq_true (List.mem_filter.mp hn).2, h2⟩

/-- Such a reduction along the last axis of positions that carry their own coordinate, started from `-∞` and `0`,
    answers the coordinate of the first largest entry. -/
theorem argReduce_first {n0 n1 : ℕ} {u : Shape} (f : EReal × BitVec 32 → EReal × BitVec 32 → EReal × BitVec 32)
    (hf : ∀ p q, (f p q = p ∨ f p q = q) ∧ AtLeast (f p q) p ∧ AtLeast (f p q) q)
    (X : FVec Ideal ⟨3, ![n0, n1, 1000]⟩ .f32) (ix : FVec Ideal u .f32) (iy : IVec u 32)
    (h : (⟨3, ![n0, n1, 1000]⟩ : Shape).ReducesTo [2] ⟨2, ![n0, n1]⟩) (hu : 0 < u.numel)
    (hx : ix (Shape.Idx.first hu) = (⊥ : EReal)) (hy : iy (Shape.Idx.first hu) = 0#32)
    (P : (⟨2, ![n0, n1]⟩ : Shape).Idx → Ideal .f32 × BitVec 32)
    (hP : P = Host.argReduce f X (iotaInDim ⟨3, ![n0, n1, 1000]⟩ 32 2) ix iy h hu) (n : Fin n0) (b : Fin n1) :
    ∃ c : Fin 1000, FirstMax (fun k => X (ix3 n b k)) c
      ∧ (P (ix2 n b)).2 = BitVec.ofNat 32 c := by
  rw [hP, Ideal.argReduce_eq_reduce2]
  obtain ⟨h1, h2⟩ := reduce2_atLeast f hf X (iotaInDim ⟨3, ![n0, n1, 1000]⟩ 32 2) ix iy h hu (ix2 n b)
  rw [hx, hy] at h2
  generalize Host.reduce2 f X (iotaInDim ⟨3, ![n0, n1, 1000]⟩ 32 2) ix iy h hu (ix2 n b) = r at h1 h2
  have hall : ∀ k : Fin 1000, AtLeast r (X (ix3 n b k), BitVec.ofNat 32 k) := fun k =>
    h1 (ix3 n b k) ((h.fiber_r3_a2 (ix2 n b) (ix3 n b k)).mpr ⟨k, rfl⟩)
  have hr : ∃ c : Fin 1000, r = (X (ix3 n b c), BitVec.ofNat 32 c) := by
    rcases h2 with h2 | ⟨i, hi, h2⟩
    · refine ⟨0, ?_⟩
      have := hall 0
      rw [h2] at this
      rcases this with h | ⟨h, _⟩
      · exact absurd h not_lt_bot
      · rw [h2]; exact Prod.ext h.symm rfl
    · obtain ⟨k, hk⟩ := (h.fiber_r3_a2 (ix2 n b) i).mp hi
      exact ⟨k, by rw [h2, ← hk]; rfl⟩
  obtain ⟨c, rfl⟩ := hr
  refine ⟨c, fun k => ?_, rfl⟩
  rcases hall k with h | ⟨h, h'⟩
  · exact ⟨h.le, fun _ => h⟩
  · refine ⟨h.le, fun hk => ?_⟩
    simp only [toInt_small _ (Fin.isLt _)] at h'
    have : (k : ℕ) < c := hk
    omega

/-- The reduction's index for sample `n` of row `b` is that of the first largest entry. -/
theorem pairV_at (X : FVec Ideal S8x4096x1000 .f32) (n : Fin 8) (b : Fin 4096) :
    ∃ c : Fin 1000, FirstMax (fun k => X (ix3 n b k)) c ∧ (pairV X (ix2 n b)).2 = BitVec.ofNat 32 c :=
  argReduce_first (reducer_argmax_f32_i32 (F := Ideal)) reducer_atLeast X (constant S_ .f32 0xFF800000#32)
    (constantI S_ 32 0#32) reducesTo_S8x4096x1000_S8x4096_d2 h_S_ (by
      show Ideal.ofBits .f32 0xFF800000#32 = ⊥
      simp [Ideal.ofBits, Ideal.ieee]) rfl (pairV X) rfl n b

/-- The index of a pair is its second part. -/
theorem idxV_apply (P : S8x4096.Idx → Ideal .f32 × BitVec 32) (j : S8x4096.Idx) : idxV P j = (P j).2 := rfl

/-- The index the reference takes for sample `n` of row `b` is that of the first largest entry. -/
theorem idxV_at (X : FVec Ideal S8x4096x1000 .f32) (n : Fin 8) (b : Fin 4096) :
    ∃ c : Fin 1000, FirstMax (fun k => X (ix3 n b k)) c ∧ idxV (pairV X) (ix2 n b) = BitVec.ofNat 32 c := by
  obtain ⟨c, h1, h2⟩ := pairV_at X n b
  exact ⟨c, h1, (idxV_apply _ _).trans h2⟩

/-- Two categories with equal words are equal. -/
theorem ofNat_inj (c d : Fin 1000) : BitVec.ofNat 32 (c : ℕ) = BitVec.ofNat 32 (d : ℕ) ↔ c = d := by
  refine ⟨fun h => Fin.ext ?_, fun h => by rw [h]⟩
  have := congrArg BitVec.toInt h
  rw [toInt_small _ c.isLt, toInt_small _ d.isLt] at this
  exact_mod_cast this

/-- The reference's result for sample `n` of row `b` is a sampled value of that row. -/
theorem outV_at (A : FVec Ideal S4096x1000 .f32) (U : FVec Ideal S8x4096x1000 .f32) (n : Fin 8) (b : Fin 4096) :
    Sampled (rowA A b) (rowU U n b) (outV A U (ix2 n b)) := by
  obtain ⟨c, hc, hi⟩ := idxV_at (keyV A U) n b
  refine ⟨c, ?_, ?_⟩
  · simpa only [keyV_at] using hc
  · have h1 : Ideal.ofBits .f32 0x3F800000#32 = 1 := by simp [Ideal.ofBits, Ideal.ieee, -EReal.coe_mul]; norm_num
    pointwise [outV]
    simp only [hotV_at, hi, ofNat_inj, logpB_at, entV_at, h1, one_mul, ite_mul, zero_mul]
    simp

end Cert.RefSide

end
-- ==== Proof.RefRun.lean ====
/-
  The reference's run: it leaves its result array at the expression of RefSide.lean, and its arguments as they were.
-/
module

public import proofs.«01_k».proof.Proof.RefSide

@[expose] public section

noncomputable section

namespace Cert.RefSide

open Idealize.ShloMosaic Idealize.ShloMosaic.TcCoe Idealize.SL.Sem Cert.ReferenceIdeal Cert.ReferenceIdeal.Facts₀ Cert.Sampler

variable (m : (ℓ : Loc nD τ sig) → Buf (Elt Ideal) ℓ) (ρ : Dev nD → PrngReg)

/-- The reference runs, ends with that result, and leaves its arguments as they were. -/
theorem run : θ_run (defs (F := Ideal)) (onTc (τ := τ) (main (F := Ideal))) ⟨m, fun _ => 0, ρ⟩ (fun r => ∀ c : Dev nD,
      r.2.mem ((c.tc : Thread nD τ).loc main_v27)
        = outV (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf]
  simp only [StableHlo.TRef.toBuf, StableHlo.TRef.ofBuf, cast_eq]
  rfl

end Cert.RefSide

end
-- ==== Proof.lean ====
/-
  The proof of `Cert.Claim`: the kernel, its idealization and the reference run, keep their arguments and end with every
  semaphore counter at zero; the idealization rewrote nothing; and on the extended reals the kernel's result array equals
  the reference's, entry by entry, for all arguments. Both arrays hold a sampled value of each row (Proof/KernelSide.lean,
  Proof/RefSide.lean), and a row has only one (`Cert.Sampler.Sampled.unique`).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.KernelSide
public import proofs.«01_k».proof.Proof.RefRun
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, keeps its arguments and ends with every counter at zero. -/
theorem reference_runs : Cert.quiescent_ReferenceIdeal := fun m g _ =>
  (θ_run _ _ _).mono (fun r h => ⟨fun c => (h c).2, sem_eq_zero_of_no_sems (by decide) r.2⟩) (Cert.RefSide.run m g)

/-- From equal arguments the two result arrays are equal. -/
theorem results_eq (m : (ℓ : Loc Cert.KernelIdeal.nD Cert.KernelIdeal.τ Cert.KernelIdeal.sig) → Buf (Elt Ideal) ℓ)
    (c : Dev Cert.KernelIdeal.nD) :
    Cert.RefSide.outV (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = (Cert.KernelIdeal.Gen.dats m 0 c).arrAt 2 Cert.KernelIdeal.cfg0.N := by
  funext i
  obtain ⟨n, b, rfl⟩ : ∃ (n : Fin 8) (b : Fin 4096), i = ix2 n b := ⟨i 0, i 1, funext fun a => by fin_cases a <;> rfl⟩
  exact (Cert.RefSide.outV_at _ _ n b).unique (Cert.KernelIdeal.Side.arr_at m c n b)

/-- On the extended reals the kernel computes the reference's result. -/
theorem algebraic : Cert.algebraic_KernelIdeal_ReferenceIdeal := by
  intro m g m' g' _ hagree
  refine ⟨fun c => (Cert.KernelIdeal.Gen.dats m 0 c).arrAt 2 Cert.KernelIdeal.cfg0.N, Cert.KernelIdeal.Value.run_blocks m g, ?_⟩
  refine (θ_run _ _ _).mono (fun r h c => ⟨?_, (h c).2⟩) (Cert.RefSide.run m' g')
  refine (h c).1.trans ?_
  rw [(hagree c).1, (hagree c).2]
  exact results_eq m c

/-- All the claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_runs, trivial, algebraic⟩

end Cert.Proof

end
